-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v260) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S262144x3 : Shape := ⟨2, ![262144, 3]⟩
abbrev S2x3 : Shape := ⟨2, ![2, 3]⟩
abbrev S16x524288x2 : Shape := ⟨3, ![16, 524288, 2]⟩
abbrev S1 : Shape := ⟨1, ![1]⟩
abbrev S24x1 : Shape := ⟨2, ![24, 1]⟩
abbrev S_ : Shape := ⟨0, ![]⟩
abbrev S1x1 : Shape := ⟨2, ![1, 1]⟩
abbrev S1x3 : Shape := ⟨2, ![1, 3]⟩
abbrev S3 : Shape := ⟨1, ![3]⟩
abbrev S3x1 : Shape := ⟨2, ![3, 1]⟩
abbrev S3x262144 : Shape := ⟨2, ![3, 262144]⟩
abbrev S24x262144 : Shape := ⟨2, ![24, 262144]⟩
abbrev S3x8x262144 : Shape := ⟨3, ![3, 8, 262144]⟩
abbrev S262144x8x3 : Shape := ⟨3, ![262144, 8, 3]⟩
abbrev S3x65536 : Shape := ⟨2, ![3, 65536]⟩
abbrev S24x65536 : Shape := ⟨2, ![24, 65536]⟩
abbrev S1x65536 : Shape := ⟨2, ![1, 65536]⟩
abbrev S8x65536 : Shape := ⟨2, ![8, 65536]⟩
abbrev S8x1 : Shape := ⟨2, ![8, 1]⟩

abbrev nBuf : Space → Nat
  | .hbm => 37
  | .vmem => 10
  | .smem => 0
  | _ => 0

abbrev bufTy : (tb : Table) → Fin (tcTables nBuf tb) → BufTy
  | .hbm, ⟨0, _⟩ => ⟨S262144x3, .f32⟩
  | .hbm, ⟨1, _⟩ => ⟨S2x3, .f32⟩
  | .hbm, ⟨2, _⟩ => ⟨S16x524288x2, .f32⟩
  | .hbm, ⟨3, _⟩ => ⟨S1, .f32⟩
  | .hbm, ⟨4, _⟩ => ⟨S1, .f32⟩
  | .hbm, ⟨5, _⟩ => ⟨S24x1, .i32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1x1, .f32⟩
  | .hbm, ⟨22, _⟩ => ⟨S1x3, .f32⟩
  | .hbm, ⟨23, _⟩ => ⟨S3, .f32⟩
  | .hbm, ⟨24, _⟩ => ⟨S3x1, .f32⟩
  | .hbm, ⟨25, _⟩ => ⟨S1x3, .f32⟩
  | .hbm, ⟨26, _⟩ => ⟨S3, .f32⟩
  | .hbm, ⟨27, _⟩ => ⟨S1x3, .f32⟩
  | .hbm, ⟨28, _⟩ => ⟨S3, .f32⟩
  | .hbm, ⟨29, _⟩ => ⟨S3, .f32⟩
  | .hbm, ⟨30, _⟩ => ⟨S3x1, .f32⟩
  | .hbm, ⟨31, _⟩ => ⟨S3x262144, .f32⟩
  | .hbm, ⟨32, _⟩ => ⟨S3x262144, .f32⟩
  | .hbm, ⟨33, _⟩ => ⟨S24x262144, .i32⟩
  | .hbm, ⟨34, _⟩ => ⟨S3x8x262144, .i32⟩
  | .hbm, ⟨35, _⟩ => ⟨S262144x8x3, .i32⟩
  | .hbm, ⟨36, _⟩ => ⟨S262144x3, .f32⟩
  | .local _ .vmem, ⟨0, _⟩ => ⟨S3x65536, .f32⟩
  | .local _ .vmem, ⟨1, _⟩ => ⟨S3x65536, .f32⟩
  | .local _ .vmem, ⟨2, _⟩ => ⟨S3x1, .f32⟩
  | .local _ .vmem, ⟨3, _⟩ => ⟨S3x1, .f32⟩
  | .local _ .vmem, ⟨4, _⟩ => ⟨S1x1, .f32⟩
  | .local _ .vmem, ⟨5, _⟩ => ⟨S24x1, .i32⟩
  | .local _ .vmem, ⟨6, _⟩ => ⟨S3x65536, .f32⟩
  | .local _ .vmem, ⟨7, _⟩ => ⟨S3x65536, .f32⟩
  | .local _ .vmem, ⟨8, _⟩ => ⟨S24x65536, .i32⟩
  | .local _ .vmem, ⟨9, _⟩ => ⟨S24x65536, .i32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_cst_0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst_1 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_call0_v20 : Ref sig .tc := ⟨.hbm, 27, rfl⟩
abbrev main_call0_v21 : Ref sig .tc := ⟨.hbm, 28, rfl⟩
abbrev main_call0_v22 : Ref sig .tc := ⟨.hbm, 29, rfl⟩
abbrev main_call0_v23 : Ref sig .tc := ⟨.hbm, 30, rfl⟩
abbrev main_call0_v24 : Ref sig .tc := ⟨.hbm, 31, rfl⟩
abbrev main_call0_v25_0 : Ref sig .tc := ⟨.hbm, 32, rfl⟩
abbrev main_call0_v25_1 : Ref sig .tc := ⟨.hbm, 33, rfl⟩
abbrev main_call0_v26 : Ref sig .tc := ⟨.hbm, 34, rfl⟩
abbrev main_v0_1 : Ref sig .tc := ⟨.hbm, 35, rfl⟩
abbrev main_v0_0 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S24x65536 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S262144x3 : Shape := ⟨2, ![262144, 3]⟩
abbrev S2x3 : Shape := ⟨2, ![2, 3]⟩
abbrev S16x524288x2 : Shape := ⟨3, ![16, 524288, 2]⟩
abbrev S1 : Shape := ⟨1, ![1]⟩
abbrev S8x3 : Shape := ⟨2, ![8, 3]⟩
abbrev S_ : Shape := ⟨0, ![]⟩
abbrev S1x3 : Shape := ⟨2, ![1, 3]⟩
abbrev S3 : Shape := ⟨1, ![3]⟩
abbrev S1x1 : Shape := ⟨2, ![1, 1]⟩
abbrev S262144x1x3 : Shape := ⟨3, ![262144, 1, 3]⟩
abbrev S1x8x3 : Shape := ⟨3, ![1, 8, 3]⟩
abbrev S262144x8x3 : Shape := ⟨3, ![262144, 8, 3]⟩

abbrev nBuf : Space → Nat
  | .hbm => 269
  | .vmem => 0
  | .smem => 0
  | _ => 0

abbrev hbmTy0_0 (i : Nat) : BufTy := match i % 128 with
  | 0 => ⟨S262144x3, .f32⟩
  | 1 => ⟨S2x3, .f32⟩
  | 2 => ⟨S16x524288x2, .f32⟩
  | 3 => ⟨S1, .f32⟩
  | 4 => ⟨S1, .f32⟩
  | 5 => ⟨S8x3, .i32⟩
  | 6 => ⟨S1, .f32⟩
  | 7 => ⟨S1, .f32⟩
  | 8 => ⟨S1, .f32⟩
  | 9 => ⟨S_, .f32⟩
  | 10 => ⟨S1, .f32⟩
  | 11 => ⟨S1, .f32⟩
  | 12 => ⟨S1, .f32⟩
  | 13 => ⟨S1x3, .f32⟩
  | 14 => ⟨S3, .f32⟩
  | 15 => ⟨S1x3, .f32⟩
  | 16 => ⟨S1x3, .f32⟩
  | 17 => ⟨S3, .f32⟩
  | 18 => ⟨S1x3, .f32⟩
  | 19 => ⟨S262144x3, .f32⟩
  | 20 => ⟨S262144x3, .f32⟩
  | 21 => ⟨S1x3, .f32⟩
  | 22 => ⟨S262144x3, .f32⟩
  | 23 => ⟨S262144x3, .f32⟩
  | 24 => ⟨S_, .f32⟩
  | 25 => ⟨S1, .f32⟩
  | 26 => ⟨S1, .f32⟩
  | 27 => ⟨S1, .f32⟩
  | 28 => ⟨S1x1, .f32⟩
  | 29 => ⟨S262144x3, .f32⟩
  | 30 => ⟨S262144x3, .f32⟩
  | 31 => ⟨S262144x3, .f32⟩
  | 32 => ⟨S262144x3, .i32⟩
  | 33 => ⟨S262144x1x3, .i32⟩
  | 34 => ⟨S1x8x3, .i32⟩
  | 35 => ⟨S262144x8x3, .i32⟩
  | 36 => ⟨S262144x8x3, .i32⟩
  | 37 => ⟨S262144x8x3, .i32⟩
  | 38 => ⟨S1, .f32⟩
  | 39 => ⟨S1, .f32⟩
  | 40 => ⟨S1x1, .f32⟩
  | 41 => ⟨S262144x3, .f32⟩
  | 42 => ⟨S262144x3, .f32⟩
  | 43 => ⟨S262144x3, .f32⟩
  | 44 => ⟨S262144x3, .i32⟩
  | 45 => ⟨S262144x1x3, .i32⟩
  | 46 => ⟨S1x8x3, .i32⟩
  | 47 => ⟨S262144x8x3, .i32⟩
  | 48 => ⟨S262144x8x3, .i32⟩
  | 49 => ⟨S262144x8x3, .i32⟩
  | 50 => ⟨S1, .f32⟩
  | 51 => ⟨S1, .f32⟩
  | 52 => ⟨S1, .f32⟩
  | 53 => ⟨S1x1, .f32⟩
  | 54 => ⟨S262144x3, .f32⟩
  | 55 => ⟨S262144x3, .f32⟩
  | 56 => ⟨S262144x3, .f32⟩
  | 57 => ⟨S262144x3, .i32⟩
  | 58 => ⟨S262144x1x3, .i32⟩
  | 59 => ⟨S1x8x3, .i32⟩
  | 60 => ⟨S262144x8x3, .i32⟩
  | 61 => ⟨S262144x8x3, .i32⟩
  | 62 => ⟨S262144x8x3, .i32⟩
  | 63 => ⟨S1, .f32⟩
  | 64 => ⟨S1, .f32⟩
  | 65 => ⟨S1, .f32⟩
  | 66 => ⟨S1, .f32⟩
  | 67 => ⟨S1x1, .f32⟩
  | 68 => ⟨S262144x3, .f32⟩
  | 69 => ⟨S262144x3, .f32⟩
  | 70 => ⟨S262144x3, .f32⟩
  | 71 => ⟨S262144x3, .i32⟩
  | 72 => ⟨S262144x1x3, .i32⟩
  | 73 => ⟨S1x8x3, .i32⟩
  | 74 => ⟨S262144x8x3, .i32⟩
  | 75 => ⟨S262144x8x3, .i32⟩
  | 76 => ⟨S262144x8x3, .i32⟩
  | 77 => ⟨S1, .f32⟩
  | 78 => ⟨S1, .f32⟩
  | 79 => ⟨S1, .f32⟩
  | 80 => ⟨S1, .f32⟩
  | 81 => ⟨S1x1, .f32⟩
  | 82 => ⟨S262144x3, .f32⟩
  | 83 => ⟨S262144x3, .f32⟩
  | 84 => ⟨S262144x3, .f32⟩
  | 85 => ⟨S262144x3, .i32⟩
  | 86 => ⟨S262144x1x3, .i32⟩
  | 87 => ⟨S1x8x3, .i32⟩
  | 88 => ⟨S262144x8x3, .i32⟩
  | 89 => ⟨S262144x8x3, .i32⟩
  | 90 => ⟨S262144x8x3, .i32⟩
  | 91 => ⟨S1, .f32⟩
  | 92 => ⟨S1, .f32⟩
  | 93 => ⟨S1, .f32⟩
  | 94 => ⟨S1, .f32⟩
  | 95 => ⟨S1, .f32⟩
  | 96 => ⟨S1x1, .f32⟩
  | 97 => ⟨S262144x3, .f32⟩
  | 98 => ⟨S262144x3, .f32⟩
  | 99 => ⟨S262144x3, .f32⟩
  | 100 => ⟨S262144x3, .i32⟩
  | 101 => ⟨S262144x1x3, .i32⟩
  | 102 => ⟨S1x8x3, .i32⟩
  | 103 => ⟨S262144x8x3, .i32⟩
  | 104 => ⟨S262144x8x3, .i32⟩
  | 105 => ⟨S262144x8x3, .i32⟩
  | 106 => ⟨S1, .f32⟩
  | 107 => ⟨S1, .f32⟩
  | 108 => ⟨S1, .f32⟩
  | 109 => ⟨S1, .f32⟩
  | 110 => ⟨S1, .f32⟩
  | 111 => ⟨S1x1, .f32⟩
  | 112 => ⟨S262144x3, .f32⟩
  | 113 => ⟨S262144x3, .f32⟩
  | 114 => ⟨S262144x3, .f32⟩
  | 115 => ⟨S262144x3, .i32⟩
  | 116 => ⟨S262144x1x3, .i32⟩
  | 117 => ⟨S1x8x3, .i32⟩
  | 118 => ⟨S262144x8x3, .i32⟩
  | 119 => ⟨S262144x8x3, .i32⟩
  | 120 => ⟨S262144x8x3, .i32⟩
  | 121 => ⟨S1, .f32⟩
  | 122 => ⟨S1, .f32⟩
  | 123 => ⟨S1, .f32⟩
  | 124 => ⟨S1, .f32⟩
  | 125 => ⟨S1, .f32⟩
  | 126 => ⟨S1, .f32⟩
  | 127 => ⟨S1x1, .f32⟩
  | _ => ⟨S262144x3, .f32⟩

abbrev hbmTy0_1 (i : Nat) : BufTy := match i % 128 with
  | 0 => ⟨S262144x3, .f32⟩
  | 1 => ⟨S262144x3, .f32⟩
  | 2 => ⟨S262144x3, .f32⟩
  | 3 => ⟨S262144x3, .i32⟩
  | 4 => ⟨S262144x1x3, .i32⟩
  | 5 => ⟨S1x8x3, .i32⟩
  | 6 => ⟨S262144x8x3, .i32⟩
  | 7 => ⟨S262144x8x3, .i32⟩
  | 8 => ⟨S262144x8x3, .i32⟩
  | 9 => ⟨S1, .f32⟩
  | 10 => ⟨S1, .f32⟩
  | 11 => ⟨S1, .f32⟩
  | 12 => ⟨S1, .f32⟩
  | 13 => ⟨S1, .f32⟩
  | 14 => ⟨S1x1, .f32⟩
  | 15 => ⟨S262144x3, .f32⟩
  | 16 => ⟨S262144x3, .f32⟩
  | 17 => ⟨S262144x3, .f32⟩
  | 18 => ⟨S262144x3, .i32⟩
  | 19 => ⟨S262144x1x3, .i32⟩
  | 20 => ⟨S1x8x3, .i32⟩
  | 21 => ⟨S262144x8x3, .i32⟩
  | 22 => ⟨S262144x8x3, .i32⟩
  | 23 => ⟨S262144x8x3, .i32⟩
  | 24 => ⟨S1, .f32⟩
  | 25 => ⟨S1, .f32⟩
  | 26 => ⟨S1, .f32⟩
  | 27 => ⟨S1, .f32⟩
  | 28 => ⟨S1, .f32⟩
  | 29 => ⟨S1, .f32⟩
  | 30 => ⟨S1x1, .f32⟩
  | 31 => ⟨S262144x3, .f32⟩
  | 32 => ⟨S262144x3, .f32⟩
  | 33 => ⟨S262144x3, .f32⟩
  | 34 => ⟨S262144x3, .i32⟩
  | 35 => ⟨S262144x1x3, .i32⟩
  | 36 => ⟨S1x8x3, .i32⟩
  | 37 => ⟨S262144x8x3, .i32⟩
  | 38 => ⟨S262144x8x3, .i32⟩
  | 39 => ⟨S262144x8x3, .i32⟩
  | 40 => ⟨S1, .f32⟩
  | 41 => ⟨S1, .f32⟩
  | 42 => ⟨S1, .f32⟩
  | 43 => ⟨S1, .f32⟩
  | 44 => ⟨S1, .f32⟩
  | 45 => ⟨S1, .f32⟩
  | 46 => ⟨S1x1, .f32⟩
  | 47 => ⟨S262144x3, .f32⟩
  | 48 => ⟨S262144x3, .f32⟩
  | 49 => ⟨S262144x3, .f32⟩
  | 50 => ⟨S262144x3, .i32⟩
  | 51 => ⟨S262144x1x3, .i32⟩
  | 52 => ⟨S1x8x3, .i32⟩
  | 53 => ⟨S262144x8x3, .i32⟩
  | 54 => ⟨S262144x8x3, .i32⟩
  | 55 => ⟨S262144x8x3, .i32⟩
  | 56 => ⟨S1, .f32⟩
  | 57 => ⟨S1, .f32⟩
  | 58 => ⟨S1, .f32⟩
  | 59 => ⟨S1, .f32⟩
  | 60 => ⟨S1, .f32⟩
  | 61 => ⟨S1, .f32⟩
  | 62 => ⟨S1, .f32⟩
  | 63 => ⟨S1x1, .f32⟩
  | 64 => ⟨S262144x3, .f32⟩
  | 65 => ⟨S262144x3, .f32⟩
  | 66 => ⟨S262144x3, .f32⟩
  | 67 => ⟨S262144x3, .i32⟩
  | 68 => ⟨S262144x1x3, .i32⟩
  | 69 => ⟨S1x8x3, .i32⟩
  | 70 => ⟨S262144x8x3, .i32⟩
  | 71 => ⟨S262144x8x3, .i32⟩
  | 72 => ⟨S262144x8x3, .i32⟩
  | 73 => ⟨S1, .f32⟩
  | 74 => ⟨S1, .f32⟩
  | 75 => ⟨S1, .f32⟩
  | 76 => ⟨S1, .f32⟩
  | 77 => ⟨S1, .f32⟩
  | 78 => ⟨S1, .f32⟩
  | 79 => ⟨S1x1, .f32⟩
  | 80 => ⟨S262144x3, .f32⟩
  | 81 => ⟨S262144x3, .f32⟩
  | 82 => ⟨S262144x3, .f32⟩
  | 83 => ⟨S262144x3, .i32⟩
  | 84 => ⟨S262144x1x3, .i32⟩
  | 85 => ⟨S1x8x3, .i32⟩
  | 86 => ⟨S262144x8x3, .i32⟩
  | 87 => ⟨S262144x8x3, .i32⟩
  | 88 => ⟨S262144x8x3, .i32⟩
  | 89 => ⟨S1, .f32⟩
  | 90 => ⟨S1, .f32⟩
  | 91 => ⟨S1, .f32⟩
  | 92 => ⟨S1, .f32⟩
  | 93 => ⟨S1, .f32⟩
  | 94 => ⟨S1, .f32⟩
  | 95 => ⟨S1, .f32⟩
  | 96 => ⟨S1x1, .f32⟩
  | 97 => ⟨S262144x3, .f32⟩
  | 98 => ⟨S262144x3, .f32⟩
  | 99 => ⟨S262144x3, .f32⟩
  | 100 => ⟨S262144x3, .i32⟩
  | 101 => ⟨S262144x1x3, .i32⟩
  | 102 => ⟨S1x8x3, .i32⟩
  | 103 => ⟨S262144x8x3, .i32⟩
  | 104 => ⟨S262144x8x3, .i32⟩
  | 105 => ⟨S262144x8x3, .i32⟩
  | 106 => ⟨S1, .f32⟩
  | 107 => ⟨S1, .f32⟩
  | 108 => ⟨S1, .f32⟩
  | 109 => ⟨S1, .f32⟩
  | 110 => ⟨S1, .f32⟩
  | 111 => ⟨S1, .f32⟩
  | 112 => ⟨S1, .f32⟩
  | 113 => ⟨S1x1, .f32⟩
  | 114 => ⟨S262144x3, .f32⟩
  | 115 => ⟨S262144x3, .f32⟩
  | 116 => ⟨S262144x3, .f32⟩
  | 117 => ⟨S262144x3, .i32⟩
  | 118 => ⟨S262144x1x3, .i32⟩
  | 119 => ⟨S1x8x3, .i32⟩
  | 120 => ⟨S262144x8x3, .i32⟩
  | 121 => ⟨S262144x8x3, .i32⟩
  | 122 => ⟨S262144x8x3, .i32⟩
  | 123 => ⟨S1, .f32⟩
  | 124 => ⟨S1, .f32⟩
  | 125 => ⟨S1, .f32⟩
  | 126 => ⟨S1, .f32⟩
  | 127 => ⟨S1, .f32⟩
  | _ => ⟨S262144x3, .f32⟩

abbrev hbmTy0_2 (i : Nat) : BufTy := match i % 128 with
  | 0 => ⟨S1, .f32⟩
  | 1 => ⟨S1, .f32⟩
  | 2 => ⟨S1, .f32⟩
  | 3 => ⟨S1x1, .f32⟩
  | 4 => ⟨S262144x3, .f32⟩
  | 5 => ⟨S262144x3, .f32⟩
  | 6 => ⟨S262144x3, .f32⟩
  | 7 => ⟨S262144x3, .i32⟩
  | 8 => ⟨S262144x1x3, .i32⟩
  | 9 => ⟨S1x8x3, .i32⟩
  | 10 => ⟨S262144x8x3, .i32⟩
  | 11 => ⟨S262144x8x3, .i32⟩
  | 12 => ⟨S262144x8x3, .i32⟩
  | _ => ⟨S262144x3, .f32⟩

abbrev hbmTy (i : Nat) : BufTy := match i / 128 with
  | 0 => hbmTy0_0 i
  | 1 => hbmTy0_1 i
  | 2 => hbmTy0_2 i
  | _ => ⟨S262144x3, .f32⟩

abbrev bufTy : (tb : Table) → Fin (tcTables nBuf tb) → BufTy
  | .hbm, ⟨i, _⟩ => hbmTy i
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_v241 : Ref sig .tc := ⟨.hbm, 249, rfl⟩
abbrev main_v242 : Ref sig .tc := ⟨.hbm, 250, rfl⟩
abbrev main_v243 : Ref sig .tc := ⟨.hbm, 251, rfl⟩
abbrev main_v244 : Ref sig .tc := ⟨.hbm, 252, rfl⟩
abbrev main_v245 : Ref sig .tc := ⟨.hbm, 253, rfl⟩
abbrev main_v246 : Ref sig .tc := ⟨.hbm, 254, rfl⟩
abbrev main_v247 : Ref sig .tc := ⟨.hbm, 255, rfl⟩
abbrev main_v248 : Ref sig .tc := ⟨.hbm, 256, rfl⟩
abbrev main_v249 : Ref sig .tc := ⟨.hbm, 257, rfl⟩
abbrev main_v250 : Ref sig .tc := ⟨.hbm, 258, rfl⟩
abbrev main_v251 : Ref sig .tc := ⟨.hbm, 259, rfl⟩
abbrev main_v252 : Ref sig .tc := ⟨.hbm, 260, rfl⟩
abbrev main_v253 : Ref sig .tc := ⟨.hbm, 261, rfl⟩
abbrev main_v254 : Ref sig .tc := ⟨.hbm, 262, rfl⟩
abbrev main_v255 : Ref sig .tc := ⟨.hbm, 263, rfl⟩
abbrev main_v256 : Ref sig .tc := ⟨.hbm, 264, rfl⟩
abbrev main_v257 : Ref sig .tc := ⟨.hbm, 265, rfl⟩
abbrev main_v258 : Ref sig .tc := ⟨.hbm, 266, rfl⟩
abbrev main_v259 : Ref sig .tc := ⟨.hbm, 267, rfl⟩
abbrev main_v260 : Ref sig .tc := ⟨.hbm, 268, rfl⟩

abbrev nD : Nat := 1
abbrev τ : Topo := Topo.v7x

variable {F : FTy → Type} [FloatOps F]
-- ==== Proof.Voxel.Spec.lean ====
/-
  The mathematics of the problem, over the extended reals: a point of the unit box is normalised by its bounding box,
  scaled by the finest grid's resolution and rounded down to the lowest corner of the voxel that holds it, and the
  eight corners of that voxel are the lowest corner plus a bit per axis.
-/
module

public import Idealize.ShloMosaic.PureOps.Ideal
public import Idealize.ShloMosaic.Lib.Pointwise
public import Idealize.ShloMosaic.Lib.Pipeline.Value

@[expose] public section

noncomputable section

namespace Cert.Voxel

open Idealize.ShloMosaic

/-- The coarsest resolution, 16, as the number that its float word is. -/
abbrev coarsest : EReal := Ideal.ofBits .f32 0x41800000#32

/-- The finest resolution, 512, as the number that its float word is. -/
abbrev finest : EReal := Ideal.ofBits .f32 0x44000000#32

/-- The number of steps from the coarsest level to the finest, 15, as the number that its float word is. -/
abbrev steps : EReal := Ideal.ofBits .f32 0x41700000#32

/-- The growth factor from one level to the next: `exp ((log 512 - log 16) / 15)`. -/
def growth : EReal := Ideal.exp (Ideal.div (Ideal.log finest - Ideal.log coarsest) steps)

/-- The resolution of the last level: `⌊16 · growth ^ 15⌋`. -/
def resolution : EReal := Ideal.liftRound Int.floor (coarsest * growth ^ 15)

/-- A coordinate normalised by the lower and the upper bound of the box on its axis. -/
def normalised (x lo hi : EReal) : EReal := Ideal.div (x - lo) (hi - lo)

/-- The lowest corner, on one axis, of the voxel of the last level that holds the normalised coordinate `u`: the 32-bit
    integer of `⌊u · resolution⌋`. -/
def lowest (u : EReal) : BitVec 32 := Ideal.fptosi 32 (Ideal.liftRound Int.floor (u * resolution))

/-- What corner number `k` (of eight) adds to the lowest corner on axis `d` (of three): bit `2 - d` of `k`. -/
def step (k d : Nat) : BitVec 32 := BitVec.ofNat 32 (k / 2 ^ (2 - d) % 2)

/-- The normalised points: `u[n, d] = (x[n, d] - b[0, d]) / (b[1, d] - b[0, d])`. -/
def points (x : FVec Ideal ⟨2, ![262144, 3]⟩ .f32) (b : FVec Ideal ⟨2, ![2, 3]⟩ .f32) : FVec Ideal ⟨2, ![262144, 3]⟩ .f32 :=
  fun i => normalised (x i) (b (ix2 0 (i 1))) (b (ix2 1 (i 1)))

/-- The voxel corners: `c[n, k, d] = ⌊u[n, d] · resolution⌋ + (bit 2 - d of k)`. -/
def corners (x : FVec Ideal ⟨2, ![262144, 3]⟩ .f32) (b : FVec Ideal ⟨2, ![2, 3]⟩ .f32) : IVec ⟨3, ![262144, 8, 3]⟩ 32 :=
  fun i => lowest (points x b (ix2 (i 0) (i 2))) + step (i 1).val (i 2).val

/-- The fifteenth power as repeated squaring spells it. -/
theorem pow_fifteen (g : EReal) : g * (g * g) * (g * g * (g * g)) * (g * g * (g * g) * (g * g * (g * g))) = g ^ 15 := by
  simp only [pow_succ, pow_zero, one_mul]
  ac_rfl

/-- Row `r` of the box, cut out of it and flattened, at axis `d`. -/
theorem boxRow_apply (b : FVec Ideal ⟨2, ![2, 3]⟩ .f32) (r : Nat) (hr : r < 2)
    (hs : Shape.Slices ⟨2, ![2, 3]⟩ ![r, 0] ⟨2, ![1, 3]⟩) (hc : Shape.ShapeCasts ⟨2, ![1, 3]⟩ ⟨1, ![3]⟩) (d : Fin 3) :
    shapeCast ⟨1, ![3]⟩ (extractStridedSlice ⟨2, ![1, 3]⟩ ![r, 0] b hs) hc (ix1 d) = b (ix2 ⟨r, hr⟩ d) :=
  (shapeCast_apply _ _ _ (ix2 (0 : Fin 1) d) (by fin_cases d <;> rfl)).trans
    (extractStridedSlice_apply _ _ _ _ _ fun a => by fin_cases a <;> simp)

end Cert.Voxel

end
-- ==== Proof.Voxel.Block.lean ====
/-
  What one run of the kernel's body leaves in its two output blocks, element by element, from its five input blocks: the
  transposed points, the lower bounds, the extents of the box, the resolution and the 24 corner offsets.
-/
module

public import proofs.«01_k».proof.Proof.Gen.KernelIdeal.Frame
public import proofs.«01_k».proof.Proof.Voxel.Spec
public import Idealize.ShloMosaic.Lib.Pipeline.ValueKit

@[expose] public section

noncomputable section

namespace Cert.KernelIdeal.Voxel

open Cert.KernelIdeal Cert.KernelIdeal.Gen Idealize.ShloMosaic

/-- The quotient of the body at row `d`, lane `l`. -/
theorem quotient_apply (x : Vec Ideal S3x65536 .f32) (lo rg : Vec Ideal S3x1 .f32) (d : Fin 3) (l : Fin 65536) :
    k0_pay2 x lo rg (ix2 d l) = Ideal.div (x (ix2 d l) - lo (ix2 d 0)) (rg (ix2 d 0)) := by
  pointwise [k0_pay2]

/-- The integer of the body at row `d`, lane `l`. -/
theorem integer_apply (x : Vec Ideal S3x65536 .f32) (lo rg : Vec Ideal S3x1 .f32) (nl : Vec Ideal S1x1 .f32)
    (d : Fin 3) (l : Fin 65536) :
    k0_pay3 x lo rg nl (ix2 d l)
      = Ideal.fptosi 32 (Ideal.liftRound Int.floor (Ideal.div (x (ix2 d l) - lo (ix2 d 0)) (rg (ix2 d 0)) * nl (ix2 0 0))) := by
  pointwise [k0_pay3, quotient_apply]
  rfl

/-- What the body stores in the eight rows of the first axis. -/
theorem rows0_apply (x : Vec Ideal S3x65536 .f32) (lo rg : Vec Ideal S3x1 .f32) (nl : Vec Ideal S1x1 .f32)
    (o : Vec Ideal S8x1 .i32) (k : Fin 8) (l : Fin 65536) :
    k0_pay4 x lo rg nl o (ix2 k l) = (k0_pay3 x lo rg nl (ix2 0 l) : BitVec 32) + o (ix2 k 0) := by
  pointwise [k0_pay4]
  rfl

/-- What the body stores in the eight rows of the second axis. -/
theorem rows1_apply (x : Vec Ideal S3x65536 .f32) (lo rg : Vec Ideal S3x1 .f32) (nl : Vec Ideal S1x1 .f32)
    (o : Vec Ideal S8x1 .i32) (k : Fin 8) (l : Fin 65536) :
    k0_pay5 x lo rg nl o (ix2 k l) = (k0_pay3 x lo rg nl (ix2 1 l) : BitVec 32) + o (ix2 k 0) := by
  pointwise [k0_pay5]
  rfl

/-- What the body stores in the eight rows of the third axis. -/
theorem rows2_apply (x : Vec Ideal S3x65536 .f32) (lo rg : Vec Ideal S3x1 .f32) (nl : Vec Ideal S1x1 .f32)
    (o : Vec Ideal S8x1 .i32) (k : Fin 8) (l : Fin 65536) :
    k0_pay1 (k0_pay6 x lo rg nl) (k0_pay7 (F := Ideal) o) (ix2 k l)
      = (k0_pay3 x lo rg nl (ix2 2 l) : BitVec 32) + o (ix2 k 0) := by
  pointwise [k0_pay1, k0_pay6, k0_pay7]
  rfl

/-- The axis that row `r` of the corner block belongs to: eight rows, one per corner, for each of the three axes. -/
def axis (r : Fin 24) : Fin 3 := ⟨r.val / 8, by omega⟩

/-- The row of the corner block for axis `d`, corner `k`. -/
def row (d : Fin 3) (k : Fin 8) : Fin 24 := ⟨8 * d.val + k.val, by omega⟩

/-- The corner that row `r` of the corner block belongs to. -/
def corner (r : Fin 24) : Fin 8 := ⟨r.val % 8, by omega⟩

/-- Row `8 d + k` belongs to corner `k`. -/
theorem corner_row (d : Fin 3) (k : Fin 8) : corner (row d k) = k :=
  Fin.ext (show (8 * d.val + k.val) % 8 = k.val by omega)

/-- A row is the row of its axis and its corner. -/
theorem row_axis_corner (r : Fin 24) : row (axis r) (corner r) = r :=
  Fin.ext (show 8 * (r.val / 8) + r.val % 8 = r.val by omega)

/-- Row `8 d + k` belongs to axis `d`. -/
theorem axis_row (d : Fin 3) (k : Fin 8) : axis (row d k) = d :=
  Fin.ext (show (8 * d.val + k.val) / 8 = d.val by omega)

/-- The corner block: at row `r`, lane `l`, the integer of that row's axis plus the row's offset. -/
def cornerBlock (x : Vec Ideal S3x65536 .f32) (lo rg : Vec Ideal S3x1 .f32) (nl : Vec Ideal S1x1 .f32)
    (off : Vec Ideal S24x1 .i32) : Vec Ideal S24x65536 .i32 :=
  fun y => (k0_pay3 x lo rg nl (ix2 (axis (y 0)) (y 1)) : BitVec 32) + off (ix2 (y 0) 0)

/-- The corner block at axis `d`, corner `k`. -/
theorem cornerBlock_row (x : Vec Ideal S3x65536 .f32) (lo rg : Vec Ideal S3x1 .f32) (nl : Vec Ideal S1x1 .f32)
    (off : Vec Ideal S24x1 .i32) (d : Fin 3) (k : Fin 8) (l : Fin 65536) :
    cornerBlock x lo rg nl off (ix2 (row d k) l)
      = (k0_pay3 x lo rg nl (ix2 d l) : BitVec 32) + off (ix2 (row d k) 0) := by
  show (k0_pay3 x lo rg nl (ix2 (axis (row d k)) l) : BitVec 32) + off (ix2 (row d k) 0) = _
  rw [axis_row]

/-- The first output block is the quotient. -/
theorem out5_eq (x : Vec Ideal S3x65536 .f32) (lo rg : Vec Ideal S3x1 .f32) (nl : Vec Ideal S1x1 .f32)
    (off : Vec Ideal S24x1 .i32) : out0_5 x lo rg nl off = k0_pay2 x lo rg := by
  frame_out

/-- The store of the first axis's rows puts its row `k` in that axis's row of corner `k`. -/
theorem emb_rows0 (k : Fin 8) (l : Fin 65536) : r0_4.emb (ix2 k l) = ix2 (row 0 k) l :=
  Shape.idx_ext₂ ((Rect.idx_unit_val _ _ _ _ 0).trans (by simp [row])) ((Rect.idx_unit_val _ _ _ _ 1).trans (by simp))

/-- The store of the second axis's rows puts its row `k` in that axis's row of corner `k`. -/
theorem emb_rows1 (k : Fin 8) (l : Fin 65536) : r0_6.emb (ix2 k l) = ix2 (row 1 k) l :=
  Shape.idx_ext₂ ((Rect.idx_unit_val _ _ _ _ 0).trans (by simp [row])) ((Rect.idx_unit_val _ _ _ _ 1).trans (by simp))

/-- The store of the third axis's rows puts its row `k` in that axis's row of corner `k`. -/
theorem emb_rows2 (k : Fin 8) (l : Fin 65536) : r0_8.emb (ix2 k l) = ix2 (row 2 k) l :=
  Shape.idx_ext₂ ((Rect.idx_unit_val _ _ _ _ 0).trans (by simp [row])) ((Rect.idx_unit_val _ _ _ _ 1).trans (by simp))

/-- The load of the first axis's offsets reads, for corner `k`, the offset column at that axis's row of `k`. -/
theorem off_rows0 (off : Vec Ideal S24x1 .i32) (k : Fin 8) : View.ld off r0_3 (ix2 k 0) = off (ix2 (row 0 k) 0) :=
  View.ld_unit_apply_of off _ _ _ _ _ fun a => by fin_cases a <;> simp [row]

/-- The load of the second axis's offsets reads, for corner `k`, the offset column at that axis's row of `k`. -/
theorem off_rows1 (off : Vec Ideal S24x1 .i32) (k : Fin 8) : View.ld off r0_5 (ix2 k 0) = off (ix2 (row 1 k) 0) :=
  View.ld_unit_apply_of off _ _ _ _ _ fun a => by fin_cases a <;> simp [row]

/-- The load of the third axis's offsets reads, for corner `k`, the offset column at that axis's row of `k`. -/
theorem off_rows2 (off : Vec Ideal S24x1 .i32) (k : Fin 8) : View.ld off r0_7 (ix2 k 0) = off (ix2 (row 2 k) 0) :=
  View.ld_unit_apply_of off _ _ _ _ _ fun a => by fin_cases a <;> simp [row]

/-- The second output block, written eight rows at a time, is the corner block. -/
theorem out6_eq (x : Vec Ideal S3x65536 .f32) (lo rg : Vec Ideal S3x1 .f32) (nl : Vec Ideal S1x1 .f32)
    (off : Vec Ideal S24x1 .i32) : out0_6 x lo rg nl off = cornerBlock x lo rg nl off := by
  funext y
  frame_out
  refine View.canon_apply_of_pieces (cornerBlock x lo rg nl off) _ ?_ y (cover0_6 _ _ _ y)
  intro p hp z
  simp only [List.mem_cons, List.not_mem_nil, or_false] at hp
  rcases hp with rfl | rfl | rfl <;>
    obtain ⟨k, l, rfl⟩ : ∃ (k : Fin 8) (l : Fin 65536), z = ix2 k l := ⟨z 0, z 1, (ix2_eta z).symm⟩
  · rw [emb_rows2, cornerBlock_row, ← off_rows2 off k]
    exact rows2_apply x lo rg nl _ k l
  · rw [emb_rows1, cornerBlock_row, ← off_rows1 off k]
    exact rows1_apply x lo rg nl _ k l
  · rw [emb_rows0, cornerBlock_row, ← off_rows0 off k]
    exact rows0_apply x lo rg nl _ k l

end Cert.KernelIdeal.Voxel

end
-- ==== Proof.Voxel.Entry.lean ====
/-
  What the kernel's region finds in the five arrays that it reads, element by element, in terms of the arguments as
  launched: the operations before the region transpose the points, split the box into lower bounds and extents, and
  compute the resolution of the last level.
-/
module

public import proofs.«01_k».proof.Proof.Voxel.Block
public import Idealize.ShloMosaic.Lib.StableHlo.RunRead

@[expose] public section

noncomputable section

namespace Cert.KernelIdeal.Voxel

open Cert.KernelIdeal Cert.KernelIdeal.Gen Cert.Voxel Idealize.ShloMosaic Idealize.SL.Sem

variable (m : (b : Loc nD τ sig) → Buf (Elt Ideal) b) (c : Dev nD)

/-- The points as launched. -/
abbrev argX : FVec Ideal S262144x3 .f32 := m (c.tc.loc main_arg0)

/-- The box as launched. -/
abbrev argB : FVec Ideal S2x3 .f32 := m (c.tc.loc main_arg1)

/-- The growth factor as the operations before the region compute it, in a vector of one element. -/
abbrev growthVec : FVec Ideal S1 .f32 :=
  Host.exp (Host.divf (subf (Host.log (constant (F := Ideal) S1 .f32 0x44000000#32)) (Host.log (constant (F := Ideal) S1 .f32 0x41800000#32)))
    (broadcastInDim S1 ![] bcast_S_S1 (constant (F := Ideal) S_ .f32 0x41700000#32)))

/-- The one element of that vector is the growth factor. -/
theorem growthVec_apply (i : S1.Idx) : growthVec i = growth := rfl

/-- The resolution as the operations before the region compute it from a growth factor, the fifteenth power by repeated
    squaring. -/
abbrev resolutionVec (g : FVec Ideal S1 .f32) : FVec Ideal S1 .f32 :=
  Host.floor (mulf (constant (F := Ideal) S1 .f32 0x41800000#32)
    (mulf (mulf (mulf g (mulf g g)) (mulf (mulf g g) (mulf g g))) (mulf (mulf (mulf g g) (mulf g g)) (mulf (mulf g g) (mulf g g)))))

/-- The one element of that vector is the resolution. -/
theorem resolutionVec_apply (i : S1.Idx) : resolutionVec growthVec i = resolution := by
  show Ideal.liftRound Int.floor (coarsest * (growth * (growth * growth) * (growth * growth * (growth * growth))
    * (growth * growth * (growth * growth) * (growth * growth * (growth * growth))))) = resolution
  rw [pow_fifteen]
  rfl

/-- The transposed points. -/
theorem entry_points : (V m c main_call0_v24 : FVec Ideal S3x262144 .f32)
    = transpose S3x262144 [1, 0] (argX m c) transposes_S262144x3_S3x262144_1_0 := by
  unfold V V0
  simp only [hostOps0, List.flatten_cons, List.flatten_nil, List.append_nil]
  after_results_simp
  rfl

/-- The lower bounds, as a column. -/
theorem entry_lower : (V m c main_call0_v17 : FVec Ideal S3x1 .f32)
    = shapeCast S3x1 (shapeCast S3 (extractStridedSlice S1x3 ![0, 0] (argB m c) slices_S2x3_S1x3_0_0) shapeCasts_S1x3_S3)
        shapeCasts_S3_S3x1 := by
  unfold V V0
  simp only [hostOps0, List.flatten_cons, List.flatten_nil, List.append_nil]
  after_results_simp
  rfl

/-- The extents of the box, as a column. -/
theorem entry_extent : (V m c main_call0_v23 : FVec Ideal S3x1 .f32)
    = shapeCast S3x1 (subf (shapeCast S3 (extractStridedSlice S1x3 ![1, 0] (argB m c) slices_S2x3_S1x3_1_0) shapeCasts_S1x3_S3)
        (shapeCast S3 (extractStridedSlice S1x3 ![0, 0] (argB m c) slices_S2x3_S1x3_0_0) shapeCasts_S1x3_S3))
        shapeCasts_S3_S3x1 := by
  unfold V V0
  simp only [hostOps0, List.flatten_cons, List.flatten_nil, List.append_nil]
  after_results_simp
  rfl

/-- The resolution, as a matrix of one element. -/
theorem entry_resolution : (V m c main_call0_v14 : FVec Ideal S1x1 .f32)
    = shapeCast S1x1 (resolutionVec growthVec) shapeCasts_S1_S1x1 := by
  unfold V V0
  simp only [hostOps0, List.flatten_cons, List.flatten_nil, List.append_nil]
  after_results_simp
  rfl

/-- The corner offsets, as a column. -/
theorem entry_offsets : (V m c main_call0_c : IVec S24x1 32) = fun i => lit0 (S24x1.rowMajor i) := by
  unfold V V0
  simp only [hostOps0, List.flatten_cons, List.flatten_nil, List.append_nil]
  after_results_simp
  rfl

/-- The transposed points at row `d`, column `n`: coordinate `d` of point `n`. -/
theorem entry_points_apply (d : Fin 3) (n : Fin 262144) :
    (V m c main_call0_v24 : FVec Ideal S3x262144 .f32) (ix2 d n) = argX m c (ix2 n d) := by
  rw [entry_points]
  exact transpose_apply _ _ _ _ _ fun a => by fin_cases a <;> rfl

/-- A column made of one row of the box, at row `d`. -/
theorem column_apply (v : FVec Ideal S3 .f32) (d : Fin 3) : shapeCast S3x1 v shapeCasts_S3_S3x1 (ix2 d 0) = v (ix1 d) :=
  shapeCast_apply _ _ _ _ (by fin_cases d <;> rfl)

/-- The lower bound of axis `d`. -/
theorem entry_lower_apply (d : Fin 3) : (V m c main_call0_v17 : FVec Ideal S3x1 .f32) (ix2 d 0) = argB m c (ix2 0 d) := by
  rw [entry_lower, column_apply]
  exact boxRow_apply _ 0 (by decide) _ _ d

/-- The extent of axis `d`: the upper bound less the lower. -/
theorem entry_extent_apply (d : Fin 3) :
    (V m c main_call0_v23 : FVec Ideal S3x1 .f32) (ix2 d 0) = argB m c (ix2 1 d) - argB m c (ix2 0 d) := by
  rw [entry_extent, column_apply]
  exact congrArg₂ (· - ·) (boxRow_apply _ 1 (by decide) _ _ d) (boxRow_apply _ 0 (by decide) _ _ d)

/-- The resolution's one element. -/
theorem entry_resolution_apply : (V m c main_call0_v14 : FVec Ideal S1x1 .f32) (ix2 0 0) = resolution := by
  rw [entry_resolution]
  exact (shapeCast_apply _ _ _ (ix1 (0 : Fin 1)) rfl).trans (resolutionVec_apply _)

/-- The kernel's offset table at axis `d`, corner `k`. -/
theorem offsetTable_apply : ∀ (d : Fin 3) (k : Fin 8), lit0 (S24x1.rowMajor (ix2 (row d k) 0)) = step k.val d.val := by
  decide +kernel

/-- The offset of axis `d`, corner `k`: bit `2 - d` of `k`. -/
theorem entry_offsets_apply (d : Fin 3) (k : Fin 8) :
    (V m c main_call0_c : IVec S24x1 32) (ix2 (row d k) 0) = step k.val d.val := by
  rw [entry_offsets]
  exact offsetTable_apply d k

end Cert.KernelIdeal.Voxel

end
-- ==== Proof.Voxel.Arrays.lean ====
/-
  What the kernel's two output arrays hold after the grid's four points: every point reads its own columns of the
  transposed points and the whole of the four small arrays, and writes its own columns of both outputs.
-/
module

public import proofs.«01_k».proof.Proof.Voxel.Entry

@[expose] public section

noncomputable section

namespace Cert.KernelIdeal.Voxel

open Cert.KernelIdeal Cert.KernelIdeal.Gen Cert.Voxel Idealize.ShloMosaic Idealize.SL.Sem

variable (m : (b : Loc nD τ sig) → Buf (Elt Ideal) b) (c : Dev nD)

/-- Which block each window takes at a point: the points' and the outputs' windows the point's own columns, every
    other window its one block. -/
theorem idx : ∀ t : Fin cfg0.N,
    (win0_0.index t 0 = 0 ∧ win0_0.index t 1 = t.val) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = t.val)
    ∧ (win0_6.index t 0 = 0 ∧ win0_6.index t 1 = t.val) := by
  decide +kernel

/-- The column of the arrays that lane `l` of block `t` is. -/
def lane (t : Fin cfg0.N) (l : Fin 65536) : Fin 262144 :=
  ⟨t.val * 65536 + l.val, by have h : t.val < 4 := t.isLt; omega⟩

/-- Where the first output's block `t` lies in its array. -/
theorem place5 (t : Fin cfg0.N) (d : Fin 3) (l : Fin 65536) : (win0_5.blk t).view.emb (ix2 d l) = ix2 d (lane t l) := by
  blk_ext [idx t, lane]

/-- Where the second output's block `t` lies in its array. -/
theorem place6 (t : Fin cfg0.N) (r : Fin 24) (l : Fin 65536) : (win0_6.blk t).view.emb (ix2 r l) = ix2 r (lane t l) := by
  blk_ext [idx t, lane]

/-- The block of the transposed points that point `t` reads. -/
theorem block_points (t : Fin cfg0.N) (d : Fin 3) (l : Fin 65536) :
    iblk m c 0 t (ix2 d l) = argX m c (ix2 (lane t l) d) := by
  rw [← entry_points_apply]
  blk_ext [iblk, idx t, lane]

/-- The lower bounds that point `t` reads. -/
theorem block_lower (t : Fin cfg0.N) (d : Fin 3) : iblk m c 1 t (ix2 d 0) = argB m c (ix2 0 d) := by
  rw [← entry_lower_apply]
  blk_ext [iblk, idx t]

/-- The extents that point `t` reads. -/
theorem block_extent (t : Fin cfg0.N) (d : Fin 3) :
    iblk m c 2 t (ix2 d 0) = argB m c (ix2 1 d) - argB m c (ix2 0 d) := by
  rw [← entry_extent_apply]
  blk_ext [iblk, idx t]

/-- The resolution that point `t` reads. -/
theorem block_resolution (t : Fin cfg0.N) : iblk m c 3 t (ix2 0 0) = resolution := by
  rw [← entry_resolution_apply m c]
  blk_ext [iblk, idx t]

/-- The corner offsets that point `t` reads. -/
theorem block_offsets (t : Fin cfg0.N) (d : Fin 3) (k : Fin 8) :
    iblk m c 4 t (ix2 (row d k) 0) = step k.val d.val := by
  rw [← entry_offsets_apply m c]
  blk_ext [iblk, idx t]

/-- The normalised points, transposed: what the first output array holds. -/
def pointsT : FVec Ideal S3x262144 .f32 := fun i => points (argX m c) (argB m c) (ix2 (i 1) (i 0))

/-- The corners, one row per axis and corner: what the second output array holds. -/
def cornersT : IVec S24x262144 32 := fun i =>
  corners (argX m c) (argB m c) (ix3 (i 1) (corner (i 0)) (axis (i 0)))

/-- The first output block of point `t`. -/
theorem point5 (t : Fin cfg0.N) (d : Fin 3) (l : Fin 65536) :
    k0_pay2 (iblk m c 0 t) (iblk m c 1 t) (iblk m c 2 t) (ix2 d l) = points (argX m c) (argB m c) (ix2 (lane t l) d) := by
  rw [quotient_apply, block_points, block_lower, block_extent]
  rfl

/-- The second output block of point `t`. -/
theorem point6 (t : Fin cfg0.N) (d : Fin 3) (k : Fin 8) (l : Fin 65536) :
    cornerBlock (iblk m c 0 t) (iblk m c 1 t) (iblk m c 2 t) (iblk m c 3 t) (iblk m c 4 t) (ix2 (row d k) l)
      = corners (argX m c) (argB m c) (ix3 (lane t l) k d) := by
  rw [cornerBlock_row, integer_apply, block_points, block_lower, block_extent, block_resolution, block_offsets]
  rfl

/-- The first output array after the run. -/
theorem array5 : (dats m 0 c).arrAt 5 (cfgs 0).N = pointsT m c := by
  refine (dats m 0 c).arrAt_eq_of_covers 5 _ (by decide +kernel) fun t hf y => ?_
  blk_simp
  rw [after0_5, out5_eq]
  obtain ⟨d, l, rfl⟩ : ∃ (d : Fin 3) (l : Fin 65536), y = ix2 d l := ⟨y 0, y 1, (ix2_eta y).symm⟩
  rw [place5]
  exact point5 m c t d l

/-- The second output array after the run. -/
theorem array6 : (dats m 0 c).arrAt 6 (cfgs 0).N = cornersT m c := by
  refine (dats m 0 c).arrAt_eq_of_covers 6 _ (by decide +kernel) fun t hf y => ?_
  blk_simp
  rw [after0_6, out6_eq]
  obtain ⟨r, l, rfl⟩ : ∃ (r : Fin 24) (l : Fin 65536), y = ix2 r l := ⟨y 0, y 1, (ix2_eta y).symm⟩
  rw [place6]
  obtain ⟨d, k, rfl⟩ : ∃ (d : Fin 3) (k : Fin 8), r = row d k := ⟨axis r, corner r, (row_axis_corner r).symm⟩
  refine (point6 m c t d k l).trans ?_
  show _ = corners (argX m c) (argB m c) (ix3 (lane t l) (corner (row d k)) (axis (row d k)))
  rw [corner_row, axis_row]

end Cert.KernelIdeal.Voxel

end
-- ==== Proof.Voxel.Result.lean ====
/-
  The kernel's two results: the operations after the region transpose the normalised points back, and bring the corner
  rows into the order point, corner, axis.
-/
module

public import proofs.«01_k».proof.Proof.Voxel.Arrays

@[expose] public section

noncomputable section

namespace Cert.KernelIdeal.Voxel

open Cert.KernelIdeal Cert.KernelIdeal.Gen Cert.Voxel Idealize.ShloMosaic Idealize.SL.Sem

variable (m : (b : Loc nD τ sig) → Buf (Elt Ideal) b) (c : Dev nD)

/-- The buffers as the region leaves them. -/
abbrev exit : Valuation τ sig (Elt Ideal) :=
  Pipeline.withArrays (cfgs 0).spec c (V0 m c) fun w => (dats m 0 c).arrAt w (cfgs 0).N

/-- The first output array as the region leaves it. -/
theorem exit5 : (exit m c (Proc.devRef .tc main_call0_v25_0) : FVec Ideal S3x262144 .f32) = pointsT m c :=
  (Pipeline.withArrays_arr (cfgs 0).spec launch0.win.arr_inj c (V0 m c) (fun w => (dats m 0 c).arrAt w (cfgs 0).N) 5).trans
    (array5 m c)

/-- The second output array as the region leaves it. -/
theorem exit6 : (exit m c (Proc.devRef .tc main_call0_v25_1) : IVec S24x262144 32) = cornersT m c :=
  (Pipeline.withArrays_arr (cfgs 0).spec launch0.win.arr_inj c (V0 m c) (fun w => (dats m 0 c).arrAt w (cfgs 0).N) 6).trans
    (array6 m c)

/-- Transposed back, the normalised points. -/
theorem pointsT_transpose :
    transpose S262144x3 [1, 0] (pointsT m c) transposes_S3x262144_S262144x3_1_0 = points (argX m c) (argB m c) := by
  funext i
  obtain ⟨n, d, rfl⟩ : ∃ (n : Fin 262144) (d : Fin 3), i = ix2 n d := ⟨i 0, i 1, (ix2_eta i).symm⟩
  exact transpose_apply _ _ _ _ (ix2 d n) fun a => by fin_cases a <;> rfl

/-- The corner rows split into axis and corner: the row of axis `d`, corner `k`. -/
theorem cornersT_split (d : Fin 3) (k : Fin 8) (n : Fin 262144) :
    shapeCast S3x8x262144 (cornersT m c) shapeCasts_S24x262144_S3x8x262144 (ix3 d k n)
      = corners (argX m c) (argB m c) (ix3 n k d) := by
  refine (shapeCast_apply _ _ _ (ix2 (row d k) n) ?_).trans ?_
  · simp only [Shape.rowMajor_val_two, Shape.rowMajor_val_three]
    simp [row]
    omega
  · show corners (argX m c) (argB m c) (ix3 n (corner (row d k)) (axis (row d k))) = _
    rw [corner_row, axis_row]

/-- In the order point, corner, axis: the corners. -/
theorem cornersT_transpose :
    transpose S262144x8x3 [2, 1, 0] (shapeCast S3x8x262144 (cornersT m c) shapeCasts_S24x262144_S3x8x262144)
        transposes_S3x8x262144_S262144x8x3_2_1_0
      = corners (argX m c) (argB m c) := by
  funext i
  obtain ⟨n, k, d, rfl⟩ : ∃ (n : Fin 262144) (k : Fin 8) (d : Fin 3), i = ix3 n k d :=
    ⟨i 0, i 1, i 2, (ix3_eta i).symm⟩
  exact (transpose_apply _ _ _ _ (ix3 d k n) fun a => by fin_cases a <;> rfl).trans (cornersT_split m c d k n)

/-- The first result. -/
theorem result0 : (Pipeline.afterTail₀ cfgs (dats m) 0 (V0 m) [hostOps1] c main_v0_0 : FVec Ideal S262144x3 .f32)
    = points (argX m c) (argB m c) := by
  rw [← pointsT_transpose, ← exit5]
  unfold Pipeline.afterTail₀
  simp only [hostOps1, List.flatten_cons, List.flatten_nil, List.append_nil]
  after_results_simp
  rfl

/-- The second result. -/
theorem result1 : (Pipeline.afterTail₀ cfgs (dats m) 0 (V0 m) [hostOps1] c main_v0_1 : IVec S262144x8x3 32)
    = corners (argX m c) (argB m c) := by
  rw [← cornersT_transpose, ← exit6]
  unfold Pipeline.afterTail₀
  simp only [hostOps1, List.flatten_cons, List.flatten_nil, List.append_nil]
  after_results_simp
  rfl

/-- The kernel's run: the results are the normalised points and the voxel corners of the arguments, and the arguments
    are as launched. -/
theorem run (ρ : Dev nD → PrngReg) :
    θ_run (defs (F := Ideal)) (onTc (τ := τ) (main (F := Ideal))) ⟨m, fun _ => 0, ρ⟩ fun r => ∀ c : Dev nD,
      r.2.mem (c.tc.loc main_v0_0) = points (argX m c) (argB m c)
      ∧ r.2.mem (c.tc.loc main_v0_1) = corners (argX m c) (argB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c =>
    ⟨((h c).2 main_v0_0 (Pipeline.mem_restRefs_of main_v0_0 (by decide) (by decide))).trans (result0 m c),
      ((h c).2 main_v0_1 (Pipeline.mem_restRefs_of main_v0_1 (by decide) (by decide))).trans (result1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Voxel

end
-- ==== Proof.Voxel.Reference.lean ====
/-
  The reference's two results, element by element: they are the normalised points and the voxel corners of its
  arguments.
-/
module

public import proofs.«01_k».proof.Proof.Gen.ReferenceIdeal.Run
public import proofs.«01_k».proof.Proof.Voxel.Spec
public import Idealize.ShloMosaic.Lib.Pipeline.Value

@[expose] public section

noncomputable section

namespace Cert.ReferenceIdeal.Voxel

open Cert.ReferenceIdeal Cert.ReferenceIdeal.Facts₀ Cert.Voxel Idealize.ShloMosaic Idealize.SL.Sem

variable (m : (b : Loc nD τ sig) → Buf (Elt Ideal) b) (c : Dev nD)

/-- The points as launched. -/
abbrev argX : FVec Ideal S262144x3 .f32 := m (c.tc.loc main_arg0)

/-- The box as launched. -/
abbrev argB : FVec Ideal S2x3 .f32 := m (c.tc.loc main_arg1)

/-- A row of three, made a matrix of one row, at axis `d`. -/
theorem rowMatrix_apply (v : FVec Ideal S3 .f32) (d : Fin 3) :
    broadcastInDim S1x3 ![1] bcast_S3_S1x3_1 v (ix2 0 d) = v (ix1 d) :=
  broadcastInDim_apply _ _ _ _ _ fun a => by fin_cases a; simp

/-- A matrix of one row repeated for every point, at point `n`, axis `d`. -/
theorem repeat_apply (v : FVec Ideal S1x3 .f32) (n : Fin 262144) (d : Fin 3) :
    broadcastInDim S262144x3 ![0, 1] bcast_S1x3_S262144x3_0_1 v (ix2 n d) = v (ix2 0 d) :=
  broadcastInDim_apply _ _ _ _ _ fun a => by fin_cases a <;> simp

/-- The reference's lower bounds as a matrix of one row. -/
theorem lower_apply (d : Fin 3) : Value.res_main_v8 (StableHlo.launchContents m c) (ix2 0 d) = argB m c (ix2 0 d) :=
  (rowMatrix_apply _ d).trans (boxRow_apply _ 0 (by decide) _ _ d)

/-- The first result: the normalised points. -/
theorem result0 : (Value.res_main_v16 (StableHlo.launchContents m c) : FVec Ideal S262144x3 .f32)
    = points (argX m c) (argB m c) := by
  funext i
  obtain ⟨n, d, rfl⟩ : ∃ (n : Fin 262144) (d : Fin 3), i = ix2 n d := ⟨i 0, i 1, (ix2_eta i).symm⟩
  refine congrArg₂ Ideal.div (congrArg (argX m c (ix2 n d) - ·) ((repeat_apply _ n d).trans (lower_apply m c d))) ?_
  refine (repeat_apply _ n d).trans (congrArg₂ (· - ·) ?_ (lower_apply m c d))
  exact (rowMatrix_apply _ d).trans (boxRow_apply _ 1 (by decide) _ _ d)

/-- The resolution as the reference computes it: the fifteenth power by repeated squaring. -/
abbrev resolutionVec : FVec Ideal S1 .f32 :=
  Host.floor (mulf (Value.res_main_cst (StableHlo.launchContents m c))
    (mulf (mulf (mulf (Value.res_main_v5 (StableHlo.launchContents m c)) (Value.res_main_v243 (StableHlo.launchContents m c)))
      (Value.res_main_v245 (StableHlo.launchContents m c)))
      (mulf (Value.res_main_v245 (StableHlo.launchContents m c)) (Value.res_main_v245 (StableHlo.launchContents m c)))))

/-- The one element of that vector is the resolution. -/
theorem resolutionVec_apply (i : S1.Idx) : resolutionVec m c i = resolution := by
  show Ideal.liftRound Int.floor (coarsest * (growth * (growth * growth) * (growth * growth * (growth * growth))
    * (growth * growth * (growth * growth) * (growth * growth * (growth * growth))))) = resolution
  rw [pow_fifteen]
  rfl

/-- A vector of one element repeated for every point and axis. -/
theorem repeatOne_apply (v : FVec Ideal S1 .f32) (n : Fin 262144) (d : Fin 3) :
    broadcastInDim S262144x3 ![0, 1] bcast_S1x1_S262144x3_0_1 (broadcastInDim S1x1 ![1] bcast_S1_S1x1_1 v) (ix2 n d)
      = v (ix1 0) :=
  (broadcastInDim_apply _ _ _ _ (ix2 (0 : Fin 1) (0 : Fin 1)) fun a => by fin_cases a <;> simp).trans
    (broadcastInDim_apply _ _ _ _ _ fun a => by fin_cases a; simp)

/-- The lowest corners repeated for the eight corners, at point `n`, corner `k`, axis `d`. -/
theorem repeatCorners_apply (v : IVec S262144x3 32) (n : Fin 262144) (k : Fin 8) (d : Fin 3) :
    broadcastInDim S262144x8x3 ![0, 1, 2] bcast_S262144x1x3_S262144x8x3_0_1_2
        (broadcastInDim S262144x1x3 ![0, 2] bcast_S262144x3_S262144x1x3_0_2 v) (ix3 n k d)
      = v (ix2 n d) :=
  (broadcastInDim_apply _ _ _ _ (ix3 n (0 : Fin 1) d) fun a => by fin_cases a <;> simp).trans
    (broadcastInDim_apply _ _ _ _ _ fun a => by fin_cases a <;> simp)

/-- The corner offsets repeated for every point, at point `n`, corner `k`, axis `d`. -/
theorem repeatOffsets_apply (v : IVec S8x3 32) (n : Fin 262144) (k : Fin 8) (d : Fin 3) :
    broadcastInDim S262144x8x3 ![0, 1, 2] bcast_S1x8x3_S262144x8x3_0_1_2
        (broadcastInDim S1x8x3 ![1, 2] bcast_S8x3_S1x8x3_1_2 v) (ix3 n k d)
      = v (ix2 k d) :=
  (broadcastInDim_apply _ _ _ _ (ix3 (0 : Fin 1) k d) fun a => by fin_cases a <;> simp).trans
    (broadcastInDim_apply _ _ _ _ _ fun a => by fin_cases a <;> simp)

/-- The reference's offset table at corner `k`, axis `d`. -/
theorem offsetTable_apply : ∀ (k : Fin 8) (d : Fin 3), lit0 (S8x3.rowMajor (ix2 k d)) = step k.val d.val := by
  decide +kernel

/-- The lowest corners as the reference computes them from the normalised points. -/
abbrev lowestVec : IVec S262144x3 32 :=
  fptosi 32 (Host.floor (mulf (Value.res_main_v16 (StableHlo.launchContents m c))
    (broadcastInDim S262144x3 ![0, 1] bcast_S1x1_S262144x3_0_1 (broadcastInDim S1x1 ![1] bcast_S1_S1x1_1 (resolutionVec m c)))))

/-- At point `n`, axis `d`, the lowest corner of the normalised coordinate. -/
theorem lowestVec_apply (n : Fin 262144) (d : Fin 3) :
    lowestVec m c (ix2 n d) = lowest (points (argX m c) (argB m c) (ix2 n d)) :=
  congrArg₂ (fun u v : EReal => Ideal.fptosi 32 (Ideal.liftRound Int.floor (u * v)))
    (congrFun (result0 m c) (ix2 n d)) ((repeatOne_apply _ n d).trans (resolutionVec_apply m c _))

/-- The second result: the voxel corners. -/
theorem result1 :
    addi (broadcastInDim S262144x8x3 ![0, 1, 2] bcast_S262144x1x3_S262144x8x3_0_1_2
        (broadcastInDim S262144x1x3 ![0, 2] bcast_S262144x3_S262144x1x3_0_2 (lowestVec m c)))
      (broadcastInDim S262144x8x3 ![0, 1, 2] bcast_S1x8x3_S262144x8x3_0_1_2
        (broadcastInDim S1x8x3 ![1, 2] bcast_S8x3_S1x8x3_1_2 (Value.res_main_c (StableHlo.launchContents m c))))
      = corners (argX m c) (argB m c) := by
  funext i
  obtain ⟨n, k, d, rfl⟩ : ∃ (n : Fin 262144) (k : Fin 8) (d : Fin 3), i = ix3 n k d :=
    ⟨i 0, i 1, i 2, (ix3_eta i).symm⟩
  exact congrArg₂ (fun u v : BitVec 32 => u + v) ((repeatCorners_apply _ n k d).trans (lowestVec_apply m c n d))
    ((repeatOffsets_apply _ n k d).trans (offsetTable_apply k d))

/-- The reference's run: the results are the normalised points and the voxel corners of the arguments, and the
    arguments are as launched. -/
theorem run (ρ : Dev nD → PrngReg) :
    θ_run (defs (F := Ideal)) (onTc (τ := τ) (main (F := Ideal))) ⟨m, fun _ => 0, ρ⟩ fun r => ∀ c : Dev nD,
      r.2.mem (c.tc.loc main_v16) = points (argX m c) (argB m c)
      ∧ r.2.mem (c.tc.loc main_v260) = corners (argX m c) (argB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c =>
    ⟨(h c).1.trans (result0 m c), (h c).2.1.trans (result1 m c), (h c).2.2⟩) (Value.run (F := Ideal) m ρ)

end Cert.ReferenceIdeal.Voxel

end
-- ==== Proof.lean ====
/-
  The certificate: the three frame claims from the programs' runs, the preservation claim, and the value claim, whose
  two results are the normalised points (`Cert.Voxel.points`) and the voxel corners (`Cert.Voxel.corners`) of the
  kernel's arguments.
-/
module

public import proofs.«01_k».proof.Proof.Gen.ReferenceIdeal.Run
public import proofs.«01_k».proof.Proof.Voxel.Result
public import proofs.«01_k».proof.Proof.Voxel.Reference
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments as launched, and its semaphores at zero. -/
theorem reference_frame : Cert.quiescent_ReferenceIdeal :=
  fun m ρ _ => (θ_run (Cert.ReferenceIdeal.defs (F := Ideal)) _ _).mono
    (fun r h => ⟨fun c => (h c).2.2, sem_eq_zero_of_no_sems (by decide) r.2⟩) (Cert.ReferenceIdeal.Value.run (F := Ideal) m ρ)

/-- On the same arguments the kernel and the reference have the same two results. -/
theorem same_results : Cert.algebraic_KernelIdeal_ReferenceIdeal := fun m g m' g' _ hargs => by
  refine ⟨fun c => Cert.Voxel.points (Cert.KernelIdeal.Voxel.argX m c) (Cert.KernelIdeal.Voxel.argB m c),
    fun c => Cert.Voxel.corners (Cert.KernelIdeal.Voxel.argX m c) (Cert.KernelIdeal.Voxel.argB m c),
    Cert.KernelIdeal.Voxel.run m g, ?_⟩
  refine (θ_run (Cert.ReferenceIdeal.defs (F := Ideal)) _ _).mono (fun r h c => ?_) (Cert.ReferenceIdeal.Voxel.run m' g')
  have hX : Cert.ReferenceIdeal.Voxel.argX m' c = Cert.KernelIdeal.Voxel.argX m c := (hargs c).1
  have hB : Cert.ReferenceIdeal.Voxel.argB m' c = Cert.KernelIdeal.Voxel.argB m c := (hargs c).2.1
  have hc := h c
  rw [hX, hB] at hc
  exact hc

/-- The five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, same_results⟩

end Cert.Proof

end
